-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_on_softmax_entries [hKernelIdeal : Cert.KernelIdeal.Facts] [hReferenceIdeal : Cert.ReferenceIdeal.Facts] [hOn_softmax_entries : Cert.On_softmax_entries.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![8, 3136, 49]⟩ : Shape).Idx, (Cert.On_softmax_entries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.KernelIdeal.nD Cert.KernelIdeal.τ).loc Cert.KernelIdeal.main_v2_0) i = v0 c i)
          ∧ (∀ i : (⟨3, ![8, 3136, 49]⟩ : Shape).Idx, (Cert.On_softmax_entries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 i = 1#1 → r.2.mem ((c.tc : Thread Cert.KernelIdeal.nD Cert.KernelIdeal.τ).loc Cert.KernelIdeal.main_v2_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![8, 3136, 49]⟩ : Shape).Idx, (Cert.On_softmax_entries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.ReferenceIdeal.nD Cert.ReferenceIdeal.τ).loc Cert.ReferenceIdeal.main_v19) i = v0 c i)
          ∧ (∀ i : (⟨3, ![8, 3136, 49]⟩ : Shape).Idx, (Cert.On_softmax_entries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 i = 1#1 → r.2.mem ((c.tc : Thread Cert.ReferenceIdeal.nD Cert.ReferenceIdeal.τ).loc Cert.ReferenceIdeal.main_v17) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts) (hOn_softmax_entries : Cert.On_softmax_entries.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_on_softmax_entries (hKernelIdeal := hKernelIdeal) (hReferenceIdeal := hReferenceIdeal) (hOn_softmax_entries := hOn_softmax_entries)
    ∧ algebraic_KernelIdeal_ReferenceIdeal_pre_finite (hKernelIdeal := hKernelIdeal) (hReferenceIdeal := hReferenceIdeal) (hPre_finite := hPre_finite)
-- ==== On_softmax_entries.lean ====
abbrev S8x384x56x56 : Shape := ⟨4, ![8, 384, 56, 56]⟩
abbrev S49x384 : Shape := ⟨2, ![49, 384]⟩
abbrev S49 : Shape := ⟨1, ![49]⟩
abbrev S_ : Shape := ⟨0, ![]⟩
abbrev S8x3136x49 : Shape := ⟨3, ![8, 3136, 49]⟩

class Facts : Prop where
  bcast_S_S8x3136x49 : S_.BroadcastsInDim S8x3136x49 (![] : Fin 0 → Fin S8x3136x49.rank)

variable [Facts]

def fn {F : FTy → Type} [FloatOps F] (main_arg0 : FVec F S8x384x56x56 .f32) (main_arg1 : FVec F S49x384 .f32) (main_arg2 : FVec F S49 .f32) : IVec S8x3136x49 1 × IVec S8x3136x49 1 :=
  let main_c : IVec S_ 1 := constantI S_ 1 0#1
  let main_v0 : IVec S8x3136x49 1 := broadcastInDim S8x3136x49 ![] bcast_S_S8x3136x49 main_c
  let main_c_0 : IVec S_ 1 := constantI S_ 1 1#1
  let main_v1 : IVec S8x3136x49 1 := broadcastInDim S8x3136x49 ![] bcast_S_S8x3136x49 main_c_0
  (main_v0, main_v1)
-- ==== Pre_finite.lean ====
abbrev S8x384x56x56 : Shape := ⟨4, ![8, 384, 56, 56]⟩
abbrev S49x384 : Shape := ⟨2, ![49, 384]⟩
abbrev S49 : Shape := ⟨1, ![49]⟩
abbrev S_ : Shape := ⟨0, ![]⟩

class Facts : Prop where
  bcast_S_S8x384x56x56 : S_.BroadcastsInDim S8x384x56x56 (![] : Fin 0 → Fin S8x384x56x56.rank)
  reducesTo_S8x384x56x56_S_d0_1_2_3 : S8x384x56x56.ReducesTo [0, 1, 2, 3] S_
  h_S_ : 0 < S_.numel
  bcast_S_S49x384 : S_.BroadcastsInDim S49x384 (![] : Fin 0 → Fin S49x384.rank)
  reducesTo_S49x384_S_d0_1 : S49x384.ReducesTo [0, 1] S_
  bcast_S_S49 : S_.BroadcastsInDim S49 (![] : Fin 0 → Fin S49.rank)
  reducesTo_S49_S_d0 : S49.ReducesTo [0] S_

variable [Facts]

def fn {F : FTy → Type} [FloatOps F] (main_arg0 : FVec F S8x384x56x56 .f32) (main_arg1 : FVec F S49x384 .f32) (main_arg2 : FVec F S49 .f32) : IVec S_ 1 × IVec S_ 1 × IVec S_ 1 :=
  let main_v0 : FVec F S8x384x56x56 .f32 := Host.absf main_arg0
  let main_cst : FVec F S_ .f32 := constant S_ .f32 0x7F800000#32
  let main_v1 : FVec F S8x384x56x56 .f32 := broadcastInDim S8x384x56x56 ![] bcast_S_S8x384x56x56 main_cst
  let main_v2 : IVec S8x384x56x56 1 := cmpf .olt main_v0 main_v1
  let main_c : IVec S_ 1 := constantI S_ 1 1#1
  let main_v3 : IVec S_ 1 := (fun x v => Host.reduce IntOp.andi x v reducesTo_S8x384x56x56_S_d0_1_2_3 h_S_) main_v2 main_c
  let main_v4 : FVec F S49x384 .f32 := Host.absf main_arg1
  let main_cst_0 : FVec F S_ .f32 := constant S_ .f32 0x7F800000#32
  let main_v5 : FVec F S49x384 .f32 := broadcastInDim S49x384 ![] bcast_S_S49x384 main_cst_0
  let main_v6 : IVec S49x384 1 := cmpf .olt main_v4 main_v5
  let main_c_1 : IVec S_ 1 := constantI S_ 1 1#1
  let main_v7 : IVec S_ 1 := (fun x v => Host.reduce IntOp.andi x v reducesTo_S49x384_S_d0_1 h_S_) main_v6 main_c_1
  let main_v8 : FVec F S49 .f32 := Host.absf main_arg2
  let main_cst_2 : FVec F S_ .f32 := constant S_ .f32 0x7F800000#32
  let main_v9 : FVec F S49 .f32 := broadcastInDim S49 ![] bcast_S_S49 main_cst_2
  let main_v10 : IVec S49 1 := cmpf .olt main_v8 main_v9
  let main_c_3 : IVec S_ 1 := constantI S_ 1 1#1
  let main_v11 : IVec S_ 1 := (fun x v => Host.reduce IntOp.andi x v reducesTo_S49_S_d0 h_S_) main_v10 main_c_3
  (main_v3, main_v7, main_v11)
-- ==== Kernel.lean ====
abbrev S8x384x56x56 : Shape := ⟨4, ![8, 384, 56, 56]⟩
abbrev S49x384 : Shape := ⟨2, ![49, 384]⟩
abbrev S49 : Shape := ⟨1, ![49]⟩
abbrev S8x384x3136 : Shape := ⟨3, ![8, 384, 3136]⟩
abbrev S1x49 : Shape := ⟨2, ![1, 49]⟩
abbrev S8x3136x49 : Shape := ⟨3, ![8, 3136, 49]⟩
abbrev S1x384x3136 : Shape := ⟨3, ![1, 384, 3136]⟩
abbrev S1x3136x49 : Shape := ⟨3, ![1, 3136, 49]⟩
abbrev S384x3136 : Shape := ⟨2, ![384, 3136]⟩
abbrev S49x3136 : Shape := ⟨2, ![49, 3136]⟩
abbrev S3136x49 : Shape := ⟨2, ![3136, 49]⟩
abbrev S3136 : Shape := ⟨1, ![3136]⟩
abbrev S3136x1 : Shape := ⟨2, ![3136, 1]⟩

abbrev nBuf : Space → Nat
  | .hbm => 7
  | .vmem => 8
  | .smem => 0
  | _ => 0

abbrev bufTy : (tb : Table) → Fin (tcTables nBuf tb) → BufTy
  | .hbm, ⟨0, _⟩ => ⟨S8x384x56x56, .f32⟩
  | .hbm, ⟨1, _⟩ => ⟨S49x384, .f32⟩
  | .hbm, ⟨2, _⟩ => ⟨S49, .f32⟩
  | .hbm, ⟨3, _⟩ => ⟨S8x384x3136, .f32⟩
  | .hbm, ⟨4, _⟩ => ⟨S1x49, .f32⟩
  | .hbm, ⟨5, _⟩ => ⟨S8x3136x49, .f32⟩
  | .hbm, ⟨6, _⟩ => ⟨S8x3136x49, .f32⟩
  | .local _ .vmem, ⟨0, _⟩ => ⟨S1x384x3136, .f32⟩
  | .local _ .vmem, ⟨1, _⟩ => ⟨S1x384x3136, .f32⟩
  | .local _ .vmem, ⟨2, _⟩ => ⟨S49x384, .f32⟩
  | .local _ .vmem, ⟨3, _⟩ => ⟨S1x49, .f32⟩
  | .local _ .vmem, ⟨4, _⟩ => ⟨S1x3136x49, .f32⟩
  | .local _ .vmem, ⟨5, _⟩ => ⟨S1x3136x49, .f32⟩
  | .local _ .vmem, ⟨6, _⟩ => ⟨S1x3136x49, .f32⟩
  | .local _ .vmem, ⟨7, _⟩ => ⟨S1x3136x49, .f32⟩
  | _, _ => ⟨S8x384x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x384x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S49x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x49 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x3136x49 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3136x49 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8x384x56x56 : Shape := ⟨4, ![8, 384, 56, 56]⟩
abbrev S49x384 : Shape := ⟨2, ![49, 384]⟩
abbrev S49 : Shape := ⟨1, ![49]⟩
abbrev S49x8x56x56 : Shape := ⟨4, ![49, 8, 56, 56]⟩
abbrev S8x49x56x56 : Shape := ⟨4, ![8, 49, 56, 56]⟩
abbrev S1x49x1x1 : Shape := ⟨4, ![1, 49, 1, 1]⟩
abbrev S8x56x56x49 : Shape := ⟨4, ![8, 56, 56, 49]⟩
abbrev S8x3136x49 : Shape := ⟨3, ![8, 3136, 49]⟩
abbrev S_ : Shape := ⟨0, ![]⟩
abbrev S8x3136 : Shape := ⟨2, ![8, 3136]⟩
abbrev S8x3136x1 : Shape := ⟨3, ![8, 3136, 1]⟩
abbrev S8x3136x4 : Shape := ⟨3, ![8, 3136, 4]⟩
abbrev S8x3136x4x1 : Shape := ⟨4, ![8, 3136, 4, 1]⟩
abbrev S1x1x1x49 : Shape := ⟨4, ![1, 1, 1, 49]⟩
abbrev S8x3136x4x49 : Shape := ⟨4, ![8, 3136, 4, 49]⟩

abbrev nBuf : Space → Nat
  | .hbm => 34
  | .vmem => 0
  | .smem => 0
  | _ => 0

abbrev bufTy : (tb : Table) → Fin (tcTables nBuf tb) → BufTy
  | .hbm, ⟨0, _⟩ => ⟨S8x384x56x56, .f32⟩
  | .hbm, ⟨1, _⟩ => ⟨S49x384, .f32⟩
  | .hbm, ⟨2, _⟩ => ⟨S49, .f32⟩
  | .hbm, ⟨3, _⟩ => ⟨S49x8x56x56, .f32⟩
  | .hbm, ⟨4, _⟩ => ⟨S8x49x56x56, .f32⟩
  | .hbm, ⟨5, _⟩ => ⟨S1x49x1x1, .f32⟩
  | .hbm, ⟨6, _⟩ => ⟨S8x49x56x56, .f32⟩
  | .hbm, ⟨7, _⟩ => ⟨S8x49x56x56, .f32⟩
  | .hbm, ⟨8, _⟩ => ⟨S8x56x56x49, .f32⟩
  | .hbm, ⟨9, _⟩ => ⟨S8x3136x49, .f32⟩
  | .hbm, ⟨10, _⟩ => ⟨S_, .f32⟩
  | .hbm, ⟨11, _⟩ => ⟨S8x3136, .f32⟩
  | .hbm, ⟨12, _⟩ => ⟨S_, .f32⟩
  | .hbm, ⟨13, _⟩ => ⟨S8x3136, .f32⟩
  | .hbm, ⟨14, _⟩ => ⟨S8x3136, .f32⟩
  | .hbm, ⟨15, _⟩ => ⟨S8x3136x1, .f32⟩
  | .hbm, ⟨16, _⟩ => ⟨S8x3136x49, .f32⟩
  | .hbm, ⟨17, _⟩ => ⟨S8x3136x49, .f32⟩
  | .hbm, ⟨18, _⟩ => ⟨S8x3136x49, .f32⟩
  | .hbm, ⟨19, _⟩ => ⟨S_, .f32⟩
  | .hbm, ⟨20, _⟩ => ⟨S8x3136, .f32⟩
  | .hbm, ⟨21, _⟩ => ⟨S8x3136x1, .f32⟩
  | .hbm, ⟨22, _⟩ => ⟨S8x3136x49, .f32⟩
  | .hbm, ⟨23, _⟩ => ⟨S8x3136x49, .f32⟩
  | .hbm, ⟨24, _⟩ => ⟨S8x3136x4, .f32⟩
  | .hbm, ⟨25, _⟩ => ⟨S8x3136x4, .i32⟩
  | .hbm, ⟨26, _⟩ => ⟨S8x3136x4x1, .i32⟩
  | .hbm, ⟨27, _⟩ => ⟨S1x1x1x49, .i32⟩
  | .hbm, ⟨28, _⟩ => ⟨S8x3136x4x49, .i32⟩
  | .hbm, ⟨29, _⟩ => ⟨S8x3136x4x49, .i32⟩
  | .hbm, ⟨30, _⟩ => ⟨S8x3136x4x49, .i1⟩
  | .hbm, ⟨31, _⟩ => ⟨S8x3136x4x49, .f32⟩
  | .hbm, ⟨32, _⟩ => ⟨S_, .f32⟩
  | .hbm, ⟨33, _⟩ => ⟨S8x3136x49, .f32⟩
  | _, _ => ⟨S8x384x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_values : Ref sig .tc := ⟨.hbm, 24, rfl⟩
abbrev main_indices : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== Proof.TopFour.lean ====
/-
  THE ROW MATHEMATICS OF A TOP-k SELECTION. A row is a function `s : Fin n → EReal`. Index `j` BEATS index `k` when its
  value is larger, or equal with `j` the smaller index: the order in which a stable descending sort lists the indices.
  The RANK of an index is the number of indices that beat it. This file says

  * what a loop of "take the first maximum, then remove it" has taken after r rounds: the indices of rank below r;
  * what a stable descending sort puts at position i: the index of rank i;
  * that a rank depends on the order of the values alone.
-/
module

public import Idealize.ShloMosaic.PureOps.Ideal
public import Idealize.ShloMosaic.Lib.SortFacts

@[expose] public section

noncomputable section

namespace Cert.TopFour

open Idealize.ShloMosaic

variable {n : Nat}

/-- Index `j` comes before index `k` in the descending order with ties to the smaller index. -/
def Beats (s : Fin n → EReal) (j k : Fin n) : Prop := s k < s j ∨ (s j = s k ∧ j < k)

open Classical in
/-- The number of indices that beat `k`. -/
def rank (s : Fin n → EReal) (k : Fin n) : Nat := (Finset.univ.filter fun j => Beats s j k).card

/-- No index beats itself. -/
theorem not_beats_self (s : Fin n → EReal) (k : Fin n) : ¬ Beats s k k := by
  rintro (h | ⟨_, h⟩)
  · exact lt_irrefl _ h
  · exact lt_irrefl _ h

/-- The order is transitive. -/
theorem Beats.trans {s : Fin n → EReal} {i j k : Fin n} (h₁ : Beats s i j) (h₂ : Beats s j k) : Beats s i k := by
  rcases h₁ with h₁ | ⟨e₁, h₁⟩ <;> rcases h₂ with h₂ | ⟨e₂, h₂⟩
  · exact .inl (h₂.trans h₁)
  · exact .inl (e₂ ▸ h₁)
  · exact .inl (e₁ ▸ h₂)
  · exact .inr ⟨e₁.trans e₂, h₁.trans h₂⟩

/-- Of two different indices one beats the other. -/
theorem beats_or_beats (s : Fin n → EReal) {j k : Fin n} (h : j ≠ k) : Beats s j k ∨ Beats s k j := by
  rcases lt_trichotomy (s j) (s k) with h' | h' | h'
  · exact .inr (.inl h')
  · rcases lt_or_gt_of_ne h with g | g
    · exact .inl (.inr ⟨h', g⟩)
    · exact .inr (.inr ⟨h'.symm, g⟩)
  · exact .inl (.inl h')

/-- An index that beats another has the smaller rank. -/
theorem rank_lt_of_beats {s : Fin n → EReal} {j k : Fin n} (h : Beats s j k) : rank s j < rank s k := by
  classical
  refine Finset.card_lt_card (Finset.ssubset_iff_of_subset ?_ |>.mpr ⟨j, ?_, ?_⟩)
  · intro i hi
    simp only [Finset.mem_filter, Finset.mem_univ, true_and] at hi ⊢
    exact hi.trans h
  · simpa using h
  · simpa using not_beats_self s j

/-- The rank tells the indices apart. -/
theorem rank_injective (s : Fin n → EReal) : Function.Injective (rank s) := by
  intro j k h
  by_contra hne
  rcases beats_or_beats s hne with g | g
  · exact absurd (rank_lt_of_beats g) (by omega)
  · exact absurd (rank_lt_of_beats g) (by omega)

/-- The smaller rank is the one that beats. -/
theorem beats_of_rank_lt {s : Fin n → EReal} {j k : Fin n} (h : rank s j < rank s k) : Beats s j k := by
  rcases beats_or_beats s (j := j) (k := k) (by rintro rfl; exact lt_irrefl _ h) with g | g
  · exact g
  · exact absurd (rank_lt_of_beats g) (by omega)

/-- A rank is less than the number of indices. -/
theorem rank_lt (s : Fin n → EReal) (k : Fin n) : rank s k < n := by
  classical
  have h : (Finset.univ.filter fun j => Beats s j k) ⊂ (Finset.univ : Finset (Fin n)) :=
    (Finset.ssubset_iff_of_subset (Finset.filter_subset _ _)).mpr ⟨k, Finset.mem_univ k, by simpa using not_beats_self s k⟩
  have := Finset.card_lt_card h
  rwa [Finset.card_univ, Fintype.card_fin] at this

/-- Every rank below `n` is taken. -/
theorem exists_rank_eq (s : Fin n → EReal) {r : Nat} (hr : r < n) : ∃ k, rank s k = r := by
  have hinj : Function.Injective fun k : Fin n => (⟨rank s k, rank_lt s k⟩ : Fin n) :=
    fun j k h => rank_injective s (congrArg Fin.val h)
  obtain ⟨k, hk⟩ := (Finite.injective_iff_surjective.mp hinj) ⟨r, hr⟩
  exact ⟨k, congrArg Fin.val hk⟩

/-- Rank 0 is the first place of the maximum: no value is larger, and no smaller index has an equal value. -/
theorem rank_eq_zero_iff (s : Fin n → EReal) (k : Fin n) :
    rank s k = 0 ↔ (∀ j, s j ≤ s k) ∧ ∀ j, s j = s k → k ≤ j := by
  classical
  rw [rank, Finset.card_eq_zero, Finset.filter_eq_empty_iff]
  constructor
  · intro h
    refine ⟨fun j => not_lt.mp fun g => h (Finset.mem_univ j) (.inl g), fun j e => not_lt.mp fun g => h (Finset.mem_univ j) (.inr ⟨e, g⟩)⟩
  · rintro ⟨h₁, h₂⟩ j - (g | ⟨e, g⟩)
    · exact absurd (h₁ j) (not_le.mpr g)
    · exact absurd (h₂ j e) (not_le.mpr g)

/-- Ranks depend only on the order of the values. -/
theorem rank_congr {s t : Fin n → EReal} (h : ∀ j k, s j < s k ↔ t j < t k) (k : Fin n) : rank s k = rank t k := by
  classical
  have he : ∀ j k, s j = s k ↔ t j = t k := fun j k => by
    have h₁ := h j k
    have h₂ := h k j
    constructor
    · intro e
      exact le_antisymm (not_lt.mp fun g => absurd (h₂.mpr g) (by rw [e]; exact lt_irrefl _))
        (not_lt.mp fun g => absurd (h₁.mpr g) (by rw [e]; exact lt_irrefl _))
    · intro e
      exact le_antisymm (not_lt.mp fun g => absurd (h₂.mp g) (by rw [e]; exact lt_irrefl _))
        (not_lt.mp fun g => absurd (h₁.mp g) (by rw [e]; exact lt_irrefl _))
  exact congrArg Finset.card (Finset.filter_congr fun j _ => or_congr (h k j) (and_congr (he j k) Iff.rfl))

/-! ## The rounds of "take the first maximum, then remove it" -/

/-- The row after `r` rounds: what was taken reads −∞. -/
def rest (s : Fin n → EReal) (r : Nat) (k : Fin n) : EReal := if rank s k < r then ⊥ else s k

/-- Nothing is removed before the first round. -/
theorem rest_zero (s : Fin n → EReal) : rest s 0 = s := by
  funext k
  simp [rest]

/-- In a row without −∞, the first maximum of what is left after `r` rounds is the index of rank `r`. -/
theorem rank_rest_eq_zero_iff (s : Fin n → EReal) (hs : ∀ k, s k ≠ ⊥) {r : Nat} (hr : r < n) (k : Fin n) :
    rank (rest s r) k = 0 ↔ rank s k = r := by
  obtain ⟨k₀, hk₀⟩ := exists_rank_eq s hr
  have hv : rest s r k₀ = s k₀ := by simp [rest, hk₀]
  have hbeat : ∀ j, j ≠ k₀ → Beats (rest s r) k₀ j := by
    intro j hj
    by_cases hjr : rank s j < r
    · left
      rw [hv]
      simp only [rest, hjr, if_true]
      exact bot_lt_iff_ne_bot.mpr (hs k₀)
    · have hne : rank s j ≠ rank s k₀ := fun e => hj (rank_injective s e)
      have hb : Beats s k₀ j := beats_of_rank_lt (by omega)
      have hvj : rest s r j = s j := by simp [rest, hjr]
      simpa only [Beats, hv, hvj] using hb
  have hz : rank (rest s r) k₀ = 0 := by
    classical
    rw [rank, Finset.card_eq_zero, Finset.filter_eq_empty_iff]
    intro j _ hj
    by_cases e : j = k₀
    · exact not_beats_self _ _ (e ▸ hj)
    · exact not_beats_self _ _ (hj.trans (hbeat j e))
  constructor
  · intro h
    rw [rank_injective _ (h.trans hz.symm), hk₀]
  · intro h
    rw [rank_injective _ (h.trans hk₀.symm), hz]

open Classical in
/-- One round removes the first maximum of what is left: `r` rounds become `r + 1`. -/
theorem rest_succ (s : Fin n → EReal) (hs : ∀ k, s k ≠ ⊥) {r : Nat} (hr : r < n) (k : Fin n) :
    (if rank (rest s r) k = 0 then ⊥ else rest s r k) = rest s (r + 1) k := by
  simp only [rank_rest_eq_zero_iff s hs hr, rest]
  by_cases h₁ : rank s k = r
  · simp [h₁]
  · have h₂ : rank s k < r + 1 ↔ rank s k < r := by omega
    simp [h₁, h₂]

/-- The mask of what `r` rounds have taken: 1 where the rank is below `r`, else 0. -/
def taken (s : Fin n → EReal) (r : Nat) (k : Fin n) : EReal := if rank s k < r then 1 else 0

/-- Nothing is taken before the first round. -/
theorem taken_zero (s : Fin n → EReal) (k : Fin n) : taken s 0 k = 0 := by simp [taken]

open Classical in
/-- One round adds the first maximum of what is left to the mask. -/
theorem taken_succ (s : Fin n → EReal) (hs : ∀ k, s k ≠ ⊥) {r : Nat} (hr : r < n) (k : Fin n) :
    (if rank (rest s r) k = 0 then 1 else taken s r k) = taken s (r + 1) k := by
  simp only [rank_rest_eq_zero_iff s hs hr, taken]
  by_cases h₁ : rank s k = r
  · simp [h₁]
  · have h₂ : rank s k < r + 1 ↔ rank s k < r := by omega
    simp [h₁, h₂]

/-! ## A stable descending sort -/

/-- Inserting a smaller index in front of a list sorted by `Beats` keeps it sorted. -/
theorem pairwise_insert (s : Fin n → EReal) (before : Fin n → Fin n → Bool) (hb : ∀ j k, before j k = true ↔ s k < s j)
    (a : Fin n) (l : List (Fin n)) (hl : l.Pairwise (Beats s)) (ha : ∀ b ∈ l, a < b) :
    (insertBefore before a l).Pairwise (Beats s) := by
  induction l with
  | nil => exact List.pairwise_singleton _ _
  | cons b l ih =>
    have hl' := List.pairwise_cons.mp hl
    unfold insertBefore
    split
    · rename_i h
      refine List.pairwise_cons.mpr ⟨fun c hc => ?_, ih hl'.2 fun c hc => ha c (List.mem_cons_of_mem _ hc)⟩
      rcases List.mem_cons.mp ((perm_insertBefore before a l).mem_iff.mp hc) with rfl | hc
      · exact .inl ((hb _ _).mp h)
      · exact hl'.1 c hc
    · rename_i h
      have hab : Beats s a b := by
        rcases lt_or_eq_of_le (not_lt.mp fun g => h ((hb b a).mpr g)) with g | g
        · exact .inl g
        · exact .inr ⟨g.symm, ha b List.mem_cons_self⟩
      refine List.pairwise_cons.mpr ⟨fun c hc => ?_, hl⟩
      rcases List.mem_cons.mp hc with rfl | hc
      · exact hab
      · exact hab.trans (hl'.1 c hc)

/-- The stable sort of an increasing list of indices is sorted by `Beats`. -/
theorem pairwise_sort (s : Fin n → EReal) (before : Fin n → Fin n → Bool) (hb : ∀ j k, before j k = true ↔ s k < s j)
    (l : List (Fin n)) (hl : l.Pairwise (· < ·)) : (stableSort before l).Pairwise (Beats s) := by
  induction l with
  | nil => exact List.Pairwise.nil
  | cons a l ih =>
    have hl' := List.pairwise_cons.mp hl
    exact pairwise_insert s before hb a _ (ih hl'.2)
      fun b hb' => hl'.1 b ((perm_stableSort before l).mem_iff.mp hb')

/-- An earlier position of the sort holds an index that beats the later position's. -/
theorem beats_sortedFrom (s : Fin n → EReal) (before : Fin n → Fin n → Bool) (hb : ∀ j k, before j k = true ↔ s k < s j)
    {i j : Fin n} (hij : i < j) : Beats s (sortedFrom before i) (sortedFrom before j) := by
  have hp := List.pairwise_iff_get.mp
    (pairwise_sort s before hb (List.finRange n) (List.pairwise_lt_finRange n))
  exact hp (i.cast (length_sortPositions n before).symm) (j.cast (length_sortPositions n before).symm) hij

/-- The stable descending sort puts the index of rank `i` at position `i`. -/
theorem rank_sortedFrom (s : Fin n → EReal) (before : Fin n → Fin n → Bool) (hb : ∀ j k, before j k = true ↔ s k < s j)
    (i : Fin n) : rank s (sortedFrom before i) = i.val := by
  classical
  have hset : (Finset.univ.filter fun j => Beats s j (sortedFrom before i)) = (Finset.Iio i).image (sortedFrom before) := by
    ext j
    obtain ⟨i', rfl⟩ := sortedFrom_surjective before j
    simp only [Finset.mem_filter, Finset.mem_univ, true_and, Finset.mem_image, Finset.mem_Iio]
    constructor
    · intro h
      refine ⟨i', ?_, rfl⟩
      rcases lt_trichotomy i' i with g | g | g
      · exact g
      · subst g
        exact absurd h (not_beats_self _ _)
      · exact absurd (h.trans (beats_sortedFrom s before hb g)) (not_beats_self _ _)
    · rintro ⟨i'', h, e⟩
      rw [← e]
      exact beats_sortedFrom s before hb h
  rw [rank, hset, Finset.card_image_of_injective _ (sortedFrom_injective before), Fin.card_Iio]

/-- … so an index is at position `i` exactly when its rank is `i`. -/
theorem eq_sortedFrom_iff (s : Fin n → EReal) (before : Fin n → Fin n → Bool) (hb : ∀ j k, before j k = true ↔ s k < s j)
    (i k : Fin n) : sortedFrom before i = k ↔ rank s k = i.val := by
  constructor
  · rintro rfl
    exact rank_sortedFrom s before hb i
  · intro h
    exact rank_injective s ((rank_sortedFrom s before hb i).trans h.symm)

end Cert.TopFour

end
-- ==== Proof.Soft.lean ====
/-
  THE ROW MATHEMATICS OF A SOFTMAX. On a row `s : Fin n → EReal`, `top s` is its maximum (folded from −∞) and `soft s k`
  is `exp (s k − top s)` divided by the sum of all those exponentials. On a row of finite numbers the softmax keeps the
  order of the values, so it also keeps every rank (`rank_soft`): choosing the largest of the softmax is choosing the
  largest of the row.
-/
module

public import Idealize.ShloMosaic.PureOps.Ideal
public import proofs.«01_k».proof.Proof.TopFour

@[expose] public section

noncomputable section

namespace Cert.Soft

open Idealize.ShloMosaic Cert.TopFour

variable {n : Nat}

/-- The 32-bit pattern of −∞ denotes −∞. -/
theorem ofBits_negInf : Ideal.ofBits .f32 0xFF800000#32 = ⊥ := by simp [Ideal.ofBits, Ideal.ieee]

/-- The 32-bit pattern of +∞ denotes +∞. -/
theorem ofBits_posInf : Ideal.ofBits .f32 0x7F800000#32 = ⊤ := by simp [Ideal.ofBits, Ideal.ieee]

/-- The maximum of a row, folded from −∞. -/
def top (s : Fin n → EReal) : EReal := Finset.univ.fold max (Ideal.ofBits .f32 0xFF800000#32) s

/-- Every value is at most the maximum. -/
theorem le_top (s : Fin n → EReal) (k : Fin n) : s k ≤ top s :=
  (Finset.le_fold_max _).mpr (.inr ⟨k, Finset.mem_univ k, le_rfl⟩)

/-- A value is the maximum exactly when no value is larger. -/
theorem eq_top_iff (s : Fin n → EReal) (k : Fin n) : s k = top s ↔ ∀ j, s j ≤ s k := by
  constructor
  · intro h j
    rw [h]
    exact le_top s j
  · intro h
    refine le_antisymm (le_top s k) ((Finset.fold_max_le _).mpr ⟨?_, fun j _ => h j⟩)
    rw [ofBits_negInf]
    exact bot_le

/-- Some value is the maximum. -/
theorem exists_eq_top (s : Fin n → EReal) (hn : 0 < n) : ∃ k, s k = top s := by
  obtain ⟨k, hk⟩ := exists_rank_eq s hn
  exact ⟨k, (eq_top_iff s k).mpr ((rank_eq_zero_iff s k).mp hk).1⟩

/-- The softmax of a row. -/
def soft (s : Fin n → EReal) (k : Fin n) : EReal :=
  Ideal.div (Ideal.exp (s k - top s)) (∑ x, Ideal.exp (s x - top s))

/-- The exponential of a difference of two real numbers, in the reals. -/
theorem exp_coe_sub (a b : ℝ) : Ideal.exp ((a : EReal) - (b : EReal)) = ((Real.exp (a - b) : ℝ) : EReal) := by
  rw [← EReal.coe_sub]
  rfl

/-- A sum of real numbers, in the reals. -/
theorem coe_sum {ι : Type} (t : Finset ι) (f : ι → ℝ) : ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- On a row of finite numbers the softmax keeps the strict order of the values. -/
theorem soft_lt_iff (s : Fin n → EReal) (hb : ∀ k, s k ≠ ⊥) (ht : ∀ k, s k ≠ ⊤) (j k : Fin n) :
    soft s j < soft s k ↔ s j < s k := by
  obtain ⟨a, rfl⟩ : ∃ a : Fin n → ℝ, s = fun k => ((a k : ℝ) : EReal) :=
    ⟨fun k => (s k).toReal, funext fun k => (EReal.coe_toReal (ht k) (hb k)).symm⟩
  obtain ⟨k₀, hk₀⟩ := exists_eq_top (fun k => ((a k : ℝ) : EReal)) (Fin.pos j)
  have hsum : ∑ x, Ideal.exp (((a x : ℝ) : EReal) - ((a k₀ : ℝ) : EReal))
      = ((∑ x, Real.exp (a x - a k₀) : ℝ) : EReal) := by
    simp only [exp_coe_sub]
    exact coe_sum _ _
  have hpos : 0 < ∑ x, Real.exp (a x - a k₀) :=
    Finset.sum_pos (fun x _ => Real.exp_pos _) ⟨j, Finset.mem_univ j⟩
  have hval : ∀ x, soft (fun k => ((a k : ℝ) : EReal)) x
      = ((Real.exp (a x - a k₀) * (∑ x, Real.exp (a x - a k₀))⁻¹ : ℝ) : EReal) := by
    intro x
    unfold soft
    rw [← hk₀]
    beta_reduce
    rw [hsum, exp_coe_sub]
    unfold Ideal.div
    rw [if_neg (fun e => hpos.ne' (EReal.coe_eq_zero.mp e)), EReal.coe_mul, EReal.coe_inv]
  rw [hval, hval, EReal.coe_lt_coe_iff, EReal.coe_lt_coe_iff, mul_lt_mul_iff_left₀ (inv_pos.mpr hpos), Real.exp_lt_exp]
  constructor <;> intro h <;> linarith

/-- … so it keeps every rank. -/
theorem rank_soft (s : Fin n → EReal) (hb : ∀ k, s k ≠ ⊥) (ht : ∀ k, s k ≠ ⊤) (k : Fin n) :
    rank (soft s) k = rank s k :=
  rank_congr (fun j k => soft_lt_iff s hb ht j k) k

end Cert.Soft

end
-- ==== Proof.Spec.lean ====
/-
  WHAT BOTH PROGRAMS COMPUTE, from the arguments alone. For batch element `n` and pixel `p` (row-major over 56 × 56) the
  49 scores are the products of the weights' rows with the pixel's 384 channels, plus the bias. `softArr` is the array of
  their softmaxes, `maskArr` the array with 1 at the four largest scores of each pixel (ties to the smaller index).
-/
module

public import proofs.«01_k».proof.Proof.Soft
public import Idealize.ShloMosaic.Lib.Pointwise

@[expose] public section

noncomputable section

namespace Cert.Spec

open Idealize.ShloMosaic Cert.TopFour Cert.Soft

/-- The shape of the images. -/
abbrev SX : Shape := ⟨4, ![8, 384, 56, 56]⟩
/-- The shape of the weights. -/
abbrev SW : Shape := ⟨2, ![49, 384]⟩
/-- The shape of the bias. -/
abbrev SB : Shape := ⟨1, ![49]⟩
/-- The shape of both results. -/
abbrev SR : Shape := ⟨3, ![8, 3136, 49]⟩

/-- The scores of pixel `p` of batch element `n`. -/
def score (x : FVec Ideal SX .f32) (w : FVec Ideal SW .f32) (b : FVec Ideal SB .f32) (n : Fin 8) (p : Fin 3136)
    (k : Fin 49) : EReal :=
  (∑ c : Fin 384, w (ix2 k c) * x (ix4 n c ⟨p.val / 56, by omega⟩ ⟨p.val % 56, by omega⟩)) + b (ix1 k)

/-- The array of softmaxes. -/
def softArr (x : FVec Ideal SX .f32) (w : FVec Ideal SW .f32) (b : FVec Ideal SB .f32) : FVec Ideal SR .f32 :=
  fun j => soft (score x w b (j 0) (j 1)) (j 2)

/-- The array of the masks of the four largest scores. -/
def maskArr (x : FVec Ideal SX .f32) (w : FVec Ideal SW .f32) (b : FVec Ideal SB .f32) : FVec Ideal SR .f32 :=
  fun j => taken (score x w b (j 0) (j 1)) 4 (j 2)

/-! ## Finite arguments give finite scores -/

/-- Neither −∞ nor +∞. -/
def IsReal (a : EReal) : Prop := a ≠ ⊥ ∧ a ≠ ⊤

/-- A finite value is a real number. -/
theorem IsReal.exists_coe {a : EReal} (h : IsReal a) : ∃ r : ℝ, a = (r : EReal) :=
  ⟨a.toReal, (EReal.coe_toReal h.2 h.1).symm⟩

/-- A real number is finite. -/
theorem isReal_coe (r : ℝ) : IsReal (r : EReal) := ⟨EReal.coe_ne_bot r, EReal.coe_ne_top r⟩

/-- Where all arguments are finite, so is every score. -/
theorem isReal_score (x : FVec Ideal SX .f32) (w : FVec Ideal SW .f32) (b : FVec Ideal SB .f32) (hx : ∀ i, IsReal (x i))
    (hw : ∀ i, IsReal (w i)) (hb : ∀ i, IsReal (b i)) (n : Fin 8) (p : Fin 3136) (k : Fin 49) : IsReal (score x w b n p k) := by
  choose x' hx' using fun i => (hx i).exists_coe
  choose w' hw' using fun i => (hw i).exists_coe
  choose b' hb' using fun i => (hb i).exists_coe
  unfold score
  simp only [hx', hw', hb', ← EReal.coe_mul]
  rw [coe_sum, ← EReal.coe_add]
  exact isReal_coe _

end Cert.Spec

end
-- ==== Proof.Rounds.lean ====
/-
  WHAT ONE GRID POINT OF THE KERNEL COMPUTES, read at an index. The scores of one batch element are a [3136, 49] array
  (pixel, expert). `pickMask` is one round of the kernel's selection: it marks, in each row, the first place of the row's
  maximum. Four rounds, each removing what it marked, give the mask of the four first ranks; `soft` gives the other result.
-/
module

public import proofs.«01_k».proof.Proof.Soft
public import proofs.«01_k».proof.Proof.Gen.KernelIdeal.Skeleton
public import Idealize.ShloMosaic.Lib.Pointwise

@[expose] public section

set_option maxRecDepth 16384

noncomputable section

namespace Cert.Rounds

open Idealize.ShloMosaic Cert.KernelIdeal Cert.KernelIdeal.Gen Cert.TopFour Cert.Soft

/-! ## Column numbers as 32-bit words -/

/-- A column number read back from its word. -/
theorem toInt_column (k : Fin 49) : (BitVec.ofNat 32 k.val).toInt = (k.val : ℤ) := by
  have h := k.isLt
  rw [BitVec.toInt_eq_toNat_cond, BitVec.toNat_ofNat]
  have : k.val % 2 ^ 32 = k.val := Nat.mod_eq_of_lt (by omega)
  rw [this]
  split <;> omega

/-- The minimum of two words read signed is the minimum of the integers. -/
theorem toInt_minsi (x y : BitVec 32) : (IntOp.minsi x y).toInt = min x.toInt y.toInt := by
  unfold IntOp.minsi
  by_cases h : x.slt y
  · have h' : x.toInt < y.toInt := by simpa [BitVec.slt] using h
    simp [h, min_eq_left h'.le]
  · have h' : ¬ x.toInt < y.toInt := by simpa [BitVec.slt] using h
    simp [h, min_eq_right (not_lt.mp h')]

/-- The minimum over a row of words, read signed. -/
theorem toInt_fold_minsi (c : BitVec 32) (f : Fin 49 → BitVec 32) :
    (Finset.univ.fold IntOp.minsi c f).toInt = Finset.univ.fold min c.toInt fun k => (f k).toInt :=
  (Finset.fold_hom (f := f) (m := BitVec.toInt) fun x y => (toInt_minsi x y)).symm

/-- The minimum of "the column number where `P` holds, else 49" is the column `k` exactly when `k` is the first column
    where `P` holds. -/
theorem eq_fold_minsi_iff (P : Fin 49 → Prop) [DecidablePred P] (k : Fin 49) :
    BitVec.ofNat 32 k.val
        = Finset.univ.fold IntOp.minsi 2147483647#32 (fun x : Fin 49 => if P x then BitVec.ofNat 32 x.val else 49#32)
      ↔ P k ∧ ∀ j, P j → k ≤ j := by
  have hk := k.isLt
  have hval : ∀ x : Fin 49, (if P x then BitVec.ofNat 32 x.val else 49#32).toInt = if P x then (x.val : ℤ) else 49 := by
    intro x
    split
    · exact toInt_column x
    · rfl
  have hc : (2147483647#32).toInt = 2147483647 := by decide
  rw [← BitVec.toInt_inj, toInt_column, toInt_fold_minsi, hc]
  simp only [hval]
  constructor
  · intro h
    have hle : ∀ x : Fin 49, (k.val : ℤ) ≤ if P x then (x.val : ℤ) else 49 := fun x =>
      ((Finset.le_fold_min _).mp h.le).2 x (Finset.mem_univ x)
    rcases (Finset.fold_min_le _).mp h.ge with g | ⟨x, _, g⟩
    · omega
    · have hx := hle x
      by_cases hp : P x
      · simp only [hp, if_true] at g hx
        have e : x = k := Fin.ext (by omega)
        subst e
        refine ⟨hp, fun j hj => ?_⟩
        have := hle j
        simp only [hj, if_true] at this
        exact Fin.le_def.mpr (by omega)
      · simp only [hp, if_false] at g
        omega
  · rintro ⟨hp, hmin⟩
    refine le_antisymm ((Finset.le_fold_min _).mpr ⟨by omega, fun x _ => ?_⟩)
      ((Finset.fold_min_le _).mpr (.inr ⟨k, Finset.mem_univ k, by simp [hp]⟩))
    split
    · rename_i hx
      have := Fin.le_def.mp (hmin x hx)
      omega
    · omega

/-! ## One round -/

/-- One round of the selection: 1 at the first place of each row's maximum. -/
def pickMask (w : FVec Ideal S3136x49 .f32) : IVec S3136x49 1 :=
  cmpi .eq (iota .tc S3136x49 32 [1] iota_S3136x49_d1_w32)
    (broadcastTo S3136x49 (shapeCast S3136x1 (multiReductionI .minsi [1] S3136
      (select (cmpf .oeq w (broadcastTo S3136x49 (shapeCast S3136x1
          (multiReduction .maximumf [1] S3136 w 0xFF800000#32 reduces_S3136x49_S3136 (.inl rfl) rfl)
          shapeCasts_S3136_S3136x1) broadcasts_S3136x1_S3136x49))
        (iota .tc S3136x49 32 [1] iota_S3136x49_d1_w32) (broadcast S3136x49 49#32))
      2147483647#32 reduces_S3136x49_S3136 rfl) shapeCasts_S3136_S3136x1) broadcasts_S3136x1_S3136x49)

/-- A round marks, in the row of pixel `p`, the column of rank 0. -/
theorem pickMask_apply (w : FVec Ideal S3136x49 .f32) (p : Fin 3136) (k : Fin 49) :
    pickMask w (ix2 p k) = 1#1 ↔ rank (fun k => w (ix2 p k)) k = 0 := by
  have h : pickMask w (ix2 p k) = IntOp.cmpi CmpIPredicate.eq (BitVec.ofNat 32 k.val)
      (Finset.univ.fold IntOp.minsi 2147483647#32 (fun x : Fin 49 =>
        if w (ix2 p x) = top (fun x => w (ix2 p x)) then BitVec.ofNat 32 x.val else 49#32)) := by
    pointwise [pickMask]
    rfl
  rw [h, rank_eq_zero_iff]
  have hb : ∀ b : Bool, BitVec.ofBool b = 1#1 ↔ b = true := by decide
  have hcmp : ∀ a b : BitVec 32, IntOp.cmpi CmpIPredicate.eq a b = 1#1 ↔ a = b := fun a b => by
    simp [IntOp.cmpi, hb]
  rw [hcmp, eq_fold_minsi_iff]
  have htop := eq_top_iff (fun x => w (ix2 p x)) k
  constructor
  · rintro ⟨h₁, h₂⟩
    exact ⟨htop.mp h₁, fun j hj => h₂ j (hj.trans h₁)⟩
  · rintro ⟨h₁, h₂⟩
    exact ⟨htop.mpr h₁, fun j hj => h₂ j (hj.trans (htop.mpr h₁).symm)⟩

/-- The row that a round leaves: −∞ where it marked. -/
def removed (w : FVec Ideal S3136x49 .f32) : FVec Ideal S3136x49 .f32 :=
  select (pickMask w) (broadcast S3136x49 (Scalar.ofBits .f32 0xFF800000#32)) w

/-- The mask after a round: 1 where it marked, else what the mask was. -/
def marked (w m : FVec Ideal S3136x49 .f32) : FVec Ideal S3136x49 .f32 :=
  select (pickMask w) (broadcast S3136x49 (Scalar.ofBits .f32 0x3F800000#32)) m

open Classical in
/-- What a round leaves, at an index. -/
theorem removed_apply (w : FVec Ideal S3136x49 .f32) (p : Fin 3136) (k : Fin 49) :
    removed w (ix2 p k) = if rank (fun k => w (ix2 p k)) k = 0 then ⊥ else w (ix2 p k) := by
  unfold removed
  rw [ValueIdx.select_apply]
  by_cases h : rank (fun k => w (ix2 p k)) k = 0
  · rw [(pickMask_apply w p k).mpr h, if_pos h]
    exact ofBits_negInf
  · rw [ValueIdx.eq_zero_of_ne_one (fun e => h ((pickMask_apply w p k).mp e)), if_neg h]
    rfl

open Classical in
/-- The mask after a round, at an index. -/
theorem marked_apply (w m : FVec Ideal S3136x49 .f32) (p : Fin 3136) (k : Fin 49) :
    marked w m (ix2 p k) = if rank (fun k => w (ix2 p k)) k = 0 then 1 else m (ix2 p k) := by
  unfold marked
  rw [ValueIdx.select_apply]
  by_cases h : rank (fun k => w (ix2 p k)) k = 0
  · rw [(pickMask_apply w p k).mpr h, if_pos h]
    exact Ideal.ofBits_one_f32
  · rw [ValueIdx.eq_zero_of_ne_one (fun e => h ((pickMask_apply w p k).mp e)), if_neg h]
    rfl

/-! ## All rounds

The scores of pixel `p` are the row `s`, free of −∞. After `r` rounds the work array holds `rest s r` and the mask
`taken s r`; the next round takes both to `r + 1`. -/

/-- Round `r + 1` on the work array. -/
theorem removed_rest (w : FVec Ideal S3136x49 .f32) (p : Fin 3136) (s : Fin 49 → EReal) (hs : ∀ k, s k ≠ ⊥) {r : Nat}
    (hr : r < 49) (hw : ∀ k, w (ix2 p k) = rest s r k) (k : Fin 49) : removed w (ix2 p k) = rest s (r + 1) k := by
  have e : (fun k => w (ix2 p k)) = rest s r := funext hw
  rw [removed_apply, e, hw, rest_succ s hs hr]

/-- Round `r + 1` on the mask. -/
theorem marked_taken (w m : FVec Ideal S3136x49 .f32) (p : Fin 3136) (s : Fin 49 → EReal) (hs : ∀ k, s k ≠ ⊥) {r : Nat}
    (hr : r < 49) (hw : ∀ k, w (ix2 p k) = rest s r k) (hm : ∀ k, m (ix2 p k) = taken s r k) (k : Fin 49) :
    marked w m (ix2 p k) = taken s (r + 1) k := by
  have e : (fun k => w (ix2 p k)) = rest s r := funext hw
  rw [marked_apply, e, hm, taken_succ s hs hr]

/-! ## The stored blocks -/

/-- The scores at an index: the product of the weights' row `k` with the pixel's column, plus the bias. -/
theorem scores_apply (x : Vec Ideal S1x384x3136 .f32) (w : Vec Ideal S49x384 .f32) (b : Vec Ideal S1x49 .f32)
    (p : Fin 3136) (k : Fin 49) :
    k0_pay1 x w b (ix2 p k) = (∑ c : Fin 384, w (ix2 k c) * x (ix3 0 c p)) + b (ix2 0 k) := by
  pointwise [k0_pay1]

/-- The softmax block at an index. -/
theorem softBlock_apply (x : Vec Ideal S1x384x3136 .f32) (w : Vec Ideal S49x384 .f32) (b : Vec Ideal S1x49 .f32)
    (p : Fin 3136) (k : Fin 49) :
    k0_pay2 x w b (ix3 0 p k) = soft (fun k => k0_pay1 x w b (ix2 p k)) k := by
  pointwise [k0_pay2]
  rfl

/-- The first round's mask in the kernel's text. -/
theorem pay4_eq (x : Vec Ideal S1x384x3136 .f32) (w : Vec Ideal S49x384 .f32) (b : Vec Ideal S1x49 .f32) :
    k0_pay4 x w b = marked (k0_pay1 x w b) (broadcast S3136x49 (Scalar.ofBits .f32 0x00000000#32)) := rfl

/-- The first round's work array in the kernel's text. -/
theorem pay5_eq (x : Vec Ideal S1x384x3136 .f32) (w : Vec Ideal S49x384 .f32) (b : Vec Ideal S1x49 .f32) :
    k0_pay5 x w b = removed (k0_pay1 x w b) := rfl

/-- The other three rounds in the kernel's text. -/
theorem pay6_eq (m w : FVec Ideal S3136x49 .f32) :
    k0_pay6 (iota .tc S3136x49 32 [1] iota_S3136x49_d1_w32) m w
      = shapeCast S1x3136x49 (marked (removed (removed w)) (marked (removed w) (marked w m)))
          shapeCasts_S3136x49_S1x3136x49 := rfl

/-- An array stored as a block with a leading axis of one, at an index. -/
theorem asBlock_apply (v : FVec Ideal S3136x49 .f32) (p : Fin 3136) (k : Fin 49) :
    shapeCast S1x3136x49 v shapeCasts_S3136x49_S1x3136x49 (ix3 0 p k) = v (ix2 p k) := by
  pointwise

/-- The mask block at an index, where the pixel's scores are free of −∞: 1 at the columns of the four first ranks. -/
theorem maskBlock_apply (x : Vec Ideal S1x384x3136 .f32) (w : Vec Ideal S49x384 .f32) (b : Vec Ideal S1x49 .f32)
    (p : Fin 3136) (hs : ∀ k, k0_pay1 x w b (ix2 p k) ≠ ⊥) (k : Fin 49) :
    k0_pay6 (iota .tc S3136x49 32 [1] iota_S3136x49_d1_w32) (k0_pay4 x w b) (k0_pay5 x w b) (ix3 0 p k)
      = taken (fun k => k0_pay1 x w b (ix2 p k)) 4 k := by
  rw [pay6_eq, pay4_eq, pay5_eq, asBlock_apply]
  have h0 : ∀ k, k0_pay1 x w b (ix2 p k) = rest (fun k => k0_pay1 x w b (ix2 p k)) 0 k := fun k => by rw [rest_zero]
  have m0 : ∀ k, (broadcast S3136x49 (Scalar.ofBits .f32 0x00000000#32) : FVec Ideal S3136x49 .f32) (ix2 p k)
      = taken (fun k => k0_pay1 x w b (ix2 p k)) 0 k := fun k => by rw [taken_zero]; exact Ideal.ofBits_zero_f32
  have h1 := removed_rest _ p _ hs (by omega) h0
  have m1 := marked_taken _ _ p _ hs (by omega) h0 m0
  have h2 := removed_rest _ p _ hs (by omega) h1
  have m2 := marked_taken _ _ p _ hs (by omega) h1 m1
  have h3 := removed_rest _ p _ hs (by omega) h2
  have m3 := marked_taken _ _ p _ hs (by omega) h2 m2
  exact marked_taken _ _ p _ hs (by omega) h3 m3 k

end Cert.Rounds

end
-- ==== Proof.Arrays.lean ====
/-
  WHAT THE KERNEL'S RESULT ARRAYS HOLD. The grid has one point for each batch element: point `t` reads the images' block
  `t`, all weights and the bias, and writes block `t` of both results. So the two result arrays are `Spec.softArr`
  (always) and `Spec.maskArr` (where no score is −∞) of the arguments.
-/
module

public import proofs.«01_k».proof.Proof.Spec
public import proofs.«01_k».proof.Proof.Rounds
public import proofs.«01_k».proof.Proof.Gen.KernelIdeal.Value
public import Idealize.ShloMosaic.Lib.Pipeline.Value
public import Idealize.ShloMosaic.Lib.StableHlo.Run

@[expose] public section

set_option maxRecDepth 16384

noncomputable section

namespace Cert.Arrays

open Idealize.ShloMosaic Idealize.ShloMosaic.TcCoe Idealize.SL.Sem
open Idealize.ShloMosaic.Pipeline (Dat)
open Cert.KernelIdeal Cert.KernelIdeal.Gen Cert.TopFour Cert.Soft Cert.Spec Cert.Rounds

variable (m : (ℓ : Loc nD τ sig) → Buf (Elt Ideal) ℓ)

/-- The images device `c` starts with. -/
abbrev argX (c : Dev nD) : FVec Ideal SX .f32 := m ((c : Thread nD τ).loc main_arg0)
/-- Its weights. -/
abbrev argW (c : Dev nD) : FVec Ideal SW .f32 := m ((c : Thread nD τ).loc main_arg1)
/-- Its bias. -/
abbrev argB (c : Dev nD) : FVec Ideal SB .f32 := m ((c : Thread nD τ).loc main_arg2)

/-! ## The arrays the grid reads -/

/-- The images with both pixel axes merged. -/
theorem images_eq (c : Dev nD) :
    V m c main_v0 = shapeCast S8x384x3136 (argX m c) shapeCasts_S8x384x56x56_S8x384x3136 := by
  simp only [V, hostOps0]
  after_results_simp <;> rfl

/-- The bias as one row. -/
theorem bias_eq (c : Dev nD) : V m c main_v1 = shapeCast S1x49 (argB m c) shapeCasts_S49_S1x49 := by
  simp only [V, hostOps0]
  after_results_simp <;> rfl

/-- The merged images at an index. -/
theorem images_apply (c : Dev nD) (n : Fin 8) (ch : Fin 384) (p : Fin 3136) :
    (V m c main_v0 : FVec Ideal S8x384x3136 .f32) (ix3 n ch p)
      = argX m c (ix4 n ch ⟨p.val / 56, by omega⟩ ⟨p.val % 56, by omega⟩) := by
  rw [images_eq]
  pointwise

/-- The bias row at an index. -/
theorem bias_apply (c : Dev nD) (k : Fin 49) : (V m c main_v1 : FVec Ideal S1x49 .f32) (ix2 0 k) = argB m c (ix1 k) := by
  rw [bias_eq]
  pointwise

/-! ## The blocks a point reads -/

/-- The block numbers: point `t` takes block `t` of the images and of both results, and the only block of the rest. -/
theorem block_numbers : ∀ t : Fin cfg0.N,
    (win0_0.index t 0 = t.val ∧ win0_0.index t 1 = 0 ∧ win0_0.index t 2 = 0)
    ∧ (win0_1.index t 0 = 0 ∧ win0_1.index t 1 = 0) ∧ (win0_2.index t 0 = 0 ∧ win0_2.index t 1 = 0)
    ∧ (win0_3.index t 0 = t.val ∧ win0_3.index t 1 = 0 ∧ win0_3.index t 2 = 0)
    ∧ (win0_4.index t 0 = t.val ∧ win0_4.index t 1 = 0 ∧ win0_4.index t 2 = 0) :=
  (by decide +kernel : ∀ t : Fin grid0.N, _)

/-- The batch element of a grid point. -/
abbrev batch (t : Fin cfg0.N) : Fin 8 := ⟨t.val, lt_of_lt_of_eq t.isLt N_0⟩

/-- The block of images a point reads. -/
theorem block0_apply (c : Dev nD) (t : Fin cfg0.N) (ch : Fin 384) (p : Fin 3136) :
    (iblk m c 0 t : Vec Ideal S1x384x3136 .f32) (ix3 0 ch p) = (V m c main_v0 : FVec Ideal S8x384x3136 .f32) (ix3 (batch t) ch p) := by
  have h := (block_numbers t).1
  refine congrArg (V m c main_v0 : FVec Ideal S8x384x3136 .f32) (funext fun a => Fin.ext ?_)
  match a with
  | ⟨0, _⟩ => show win0_0.index t 0 * 1 + 1 * 0 = t.val; omega
  | ⟨1, _⟩ => show win0_0.index t 1 * 384 + 1 * ch.val = ch.val; omega
  | ⟨2, _⟩ => show win0_0.index t 2 * 3136 + 1 * p.val = p.val; omega

/-- The weights a point reads are all weights. -/
theorem block1_apply (c : Dev nD) (t : Fin cfg0.N) (k : Fin 49) (ch : Fin 384) :
    (iblk m c 1 t : Vec Ideal S49x384 .f32) (ix2 k ch) = argW m c (ix2 k ch) := by
  have h := (block_numbers t).2.1
  refine (congrArg (V m c main_arg1 : FVec Ideal S49x384 .f32) (funext fun a => Fin.ext ?_)).trans
    (congrFun (V_main_arg1 m c) (ix2 k ch))
  match a with
  | ⟨0, _⟩ => show win0_1.index t 0 * 49 + 1 * k.val = k.val; omega
  | ⟨1, _⟩ => show win0_1.index t 1 * 384 + 1 * ch.val = ch.val; omega

/-- The bias row a point reads is the whole bias. -/
theorem block2_apply (c : Dev nD) (t : Fin cfg0.N) (k : Fin 49) :
    (iblk m c 2 t : Vec Ideal S1x49 .f32) (ix2 0 k) = (V m c main_v1 : FVec Ideal S1x49 .f32) (ix2 0 k) := by
  have h := (block_numbers t).2.2.1
  refine congrArg (V m c main_v1 : FVec Ideal S1x49 .f32) (funext fun a => Fin.ext ?_)
  match a with
  | ⟨0, _⟩ => show win0_2.index t 0 * 1 + 1 * 0 = 0; omega
  | ⟨1, _⟩ => show win0_2.index t 1 * 49 + 1 * k.val = k.val; omega

/-- The scores a point computes are its batch element's. -/
theorem scores_eq (c : Dev nD) (t : Fin cfg0.N) (p : Fin 3136) (k : Fin 49) :
    k0_pay1 (iblk m c 0 t) (iblk m c 1 t) (iblk m c 2 t) (ix2 p k) = score (argX m c) (argW m c) (argB m c) (batch t) p k := by
  rw [scores_apply, block2_apply, bias_apply]
  unfold score
  refine congrArg (· + _) (Finset.sum_congr rfl fun ch _ => ?_)
  rw [block0_apply, images_apply, block1_apply]

/-! ## The results -/

/-- An offset of zeros, as the constant function. -/
theorem zeros3 : (![0, 0, 0] : Fin 3 → Nat) = fun _ => 0 := funext fun a => by fin_cases a <;> rfl
/-- The same for two axes. -/
theorem zeros2 : (![0, 0] : Fin 2 → Nat) = fun _ => 0 := funext fun a => by fin_cases a <;> rfl

/-- The place in the array of an index of block `t` of the masks. -/
theorem place3 (t : Fin cfg0.N) (p : Fin 3136) (k : Fin 49) :
    ((win0_3.rect t).idx (ix3 0 p k) : S8x3136x49.Idx) = ix3 (batch t) p k := by
  have h := (block_numbers t).2.2.2.1
  refine funext fun a => Fin.ext ?_
  match a with
  | ⟨0, _⟩ => show win0_3.index t 0 * 1 + 1 * 0 = t.val; omega
  | ⟨1, _⟩ => show win0_3.index t 1 * 3136 + 1 * p.val = p.val; omega
  | ⟨2, _⟩ => show win0_3.index t 2 * 49 + 1 * k.val = k.val; omega

/-- The place in the array of an index of block `t` of the softmaxes. -/
theorem place4 (t : Fin cfg0.N) (p : Fin 3136) (k : Fin 49) :
    ((win0_4.rect t).idx (ix3 0 p k) : S8x3136x49.Idx) = ix3 (batch t) p k := by
  have h := (block_numbers t).2.2.2.2
  refine funext fun a => Fin.ext ?_
  match a with
  | ⟨0, _⟩ => show win0_4.index t 0 * 1 + 1 * 0 = t.val; omega
  | ⟨1, _⟩ => show win0_4.index t 1 * 3136 + 1 * p.val = p.val; omega
  | ⟨2, _⟩ => show win0_4.index t 2 * 49 + 1 * k.val = k.val; omega

/-- An index of a stored block by its pixel and column. -/
theorem exists_pixel_column (y : S1x3136x49.Idx) : ∃ (p : Fin 3136) (k : Fin 49), y = ix3 0 p k :=
  ⟨y 1, y 2, by
    rw [eq_ix3 y]
    exact congrArg (fun z => ix3 z (y 1) (y 2)) (Subsingleton.elim (α := Fin 1) (y 0) 0)⟩

/-- What a point writes to the softmaxes is its block of `softArr`. -/
theorem soft_block (c : Dev nD) (t : Fin cfg0.N) :
    (dats m 0 c).flushed 4 t = ((cfg0.win 4).blk t).view.read (Elt Ideal) (softArr (argX m c) (argW m c) (argB m c)) := by
  rw [Cert.KernelIdeal.Value.flushed4]
  unfold out0_4
  rw [View.canon_unit_zero zeros3, View.ld_unit_zero zeros3, View.ld_unit_zero zeros2, View.ld_unit_zero zeros2]
  refine funext fun (y : S1x3136x49.Idx) => ?_
  obtain ⟨p, k, rfl⟩ := exists_pixel_column y
  show k0_pay2 (iblk m c 0 t) (iblk m c 1 t) (iblk m c 2 t) (ix3 0 p k)
    = softArr (argX m c) (argW m c) (argB m c) ((win0_4.rect t).idx (ix3 0 p k))
  rw [softBlock_apply, place4]
  simp only [scores_eq]
  rfl

/-- What a point writes to the masks is its block of `maskArr`, where no score is −∞. -/
theorem mask_block (c : Dev nD) (hs : ∀ n p k, score (argX m c) (argW m c) (argB m c) n p k ≠ ⊥) (t : Fin cfg0.N) :
    (dats m 0 c).flushed 3 t = ((cfg0.win 3).blk t).view.read (Elt Ideal) (maskArr (argX m c) (argW m c) (argB m c)) := by
  rw [Cert.KernelIdeal.Value.flushed3]
  unfold out0_3
  rw [View.canon_unit_zero zeros3, View.ld_unit_zero zeros3, View.ld_unit_zero zeros2, View.ld_unit_zero zeros2]
  refine funext fun (y : S1x3136x49.Idx) => ?_
  obtain ⟨p, k, rfl⟩ := exists_pixel_column y
  show k0_pay6 (iota .tc S3136x49 32 [1] iota_S3136x49_d1_w32) (k0_pay4 (iblk m c 0 t) (iblk m c 1 t) (iblk m c 2 t))
      (k0_pay5 (iblk m c 0 t) (iblk m c 1 t) (iblk m c 2 t)) (ix3 0 p k)
    = maskArr (argX m c) (argW m c) (argB m c) ((win0_3.rect t).idx (ix3 0 p k))
  rw [maskBlock_apply _ _ _ p (fun k => by rw [scores_eq]; exact hs _ _ _), place3]
  simp only [scores_eq]
  rfl

/-- An index of the array belongs to the block of its batch element. -/
theorem exists_place (i : S8x3136x49.Idx) : ∃ (t : Fin cfg0.N) (p : Fin 3136) (k : Fin 49), ix3 (batch t) p k = i :=
  ⟨⟨(i 0).val, lt_of_lt_of_eq (i 0).isLt N_0.symm⟩, i 1, i 2, (eq_ix3 i).symm⟩

/-- The blocks of the masks fill the array. -/
theorem cover3 (i : S8x3136x49.Idx) : ∃ t : Fin cfg0.N, (cfg0.win 3).flush t = true ∧ i ∈ ((cfg0.win 3).blk t).view.set := by
  obtain ⟨t, p, k, rfl⟩ := exists_place i
  refine ⟨t, flush0_3 t, ?_⟩
  show _ ∈ ((View.whole main_v2_0).slice (win0_3.rect t)).set
  rw [View.set_slice_whole, ← place3]
  exact LoadRect.idx_mem _ _

/-- The blocks of the softmaxes fill the array. -/
theorem cover4 (i : S8x3136x49.Idx) : ∃ t : Fin cfg0.N, (cfg0.win 4).flush t = true ∧ i ∈ ((cfg0.win 4).blk t).view.set := by
  obtain ⟨t, p, k, rfl⟩ := exists_place i
  refine ⟨t, flush0_4 t, ?_⟩
  show _ ∈ ((View.whole main_v2_1).slice (win0_4.rect t)).set
  rw [View.set_slice_whole, ← place4]
  exact LoadRect.idx_mem _ _

/-- THE KERNEL'S SECOND RESULT is the array of softmaxes. -/
theorem soft_final (c : Dev nD) : (dats m 0 c).arrAt 4 cfg0.N = softArr (argX m c) (argW m c) (argB m c) :=
  (dats m 0 c).arrAt_eq_of_cover 4 (softArr (argX m c) (argW m c) (argB m c)) (fun t _ => soft_block m c t) cover4

/-- THE KERNEL'S FIRST RESULT is the array of masks, where no score is −∞. -/
theorem mask_final (c : Dev nD) (hs : ∀ n p k, score (argX m c) (argW m c) (argB m c) n p k ≠ ⊥) :
    (dats m 0 c).arrAt 3 cfg0.N = maskArr (argX m c) (argW m c) (argB m c) :=
  (dats m 0 c).arrAt_eq_of_cover 3 (maskArr (argX m c) (argW m c) (argB m c)) (fun t _ => mask_block m c hs t) cover3

end Cert.Arrays

end
-- ==== Proof.RefValue.lean ====
/-
  WHAT THE REFERENCE COMPUTES, read at an index. Its text in four named parts: the scores, the softmax of an array of
  scores, the indices of the four largest entries of each row, and the sum of their one-hot rows. The first two give
  `Spec.softArr`; on finite arguments all four give `Spec.maskArr`, since the softmax keeps the ranks of the scores.
-/
module

public import proofs.«01_k».proof.Proof.Spec
public import proofs.«01_k».proof.Proof.Gen.ReferenceIdeal.Run

@[expose] public section

set_option maxRecDepth 16384

noncomputable section

namespace Cert.RefValue

open Idealize.ShloMosaic Cert.ReferenceIdeal Cert.ReferenceIdeal.Gen Cert.TopFour Cert.Soft Cert.Spec

/-- The reference's scores. -/
def scores (x : FVec Ideal S8x384x56x56 .f32) (w : FVec Ideal S49x384 .f32) (b : FVec Ideal S49 .f32) :
    FVec Ideal S8x3136x49 .f32 :=
  shapeCast _ (transpose S8x56x56x49 [0, 2, 3, 1]
    (addf
      (transpose S8x49x56x56 [1, 0, 2, 3]
        (Host.dotGeneral dot_S49x384_S8x384x56x56_S49x8x56x56_1_1_0_023_n_n none w x)
        transposes_S49x8x56x56_S8x49x56x56_1_0_2_3)
      (broadcastInDim S8x49x56x56 ![0, 1, 2, 3] bcast_S1x49x1x1_S8x49x56x56_0_1_2_3
        (broadcastInDim S1x49x1x1 ![1] bcast_S49_S1x49x1x1_1 b)))
    transposes_S8x49x56x56_S8x56x56x49_0_2_3_1) shapeCasts_S8x56x56x49_S8x3136x49

/-- The reference's row maxima, back on the rows. -/
def maxima (s : FVec Ideal S8x3136x49 .f32) : FVec Ideal S8x3136x49 .f32 :=
  broadcastInDim S8x3136x49 ![0, 1, 2] bcast_S8x3136x1_S8x3136x49_0_1_2
    (broadcastInDim S8x3136x1 ![0, 1] bcast_S8x3136_S8x3136x1_0_1
      (maximumf (broadcastInDim S8x3136 ![] bcast_S_S8x3136 (constant S_ .f32 0xFF800000#32))
        (Host.reduce FloatOps.maximumf s (constant S_ .f32 0xFF800000#32) reducesTo_S8x3136x49_S8x3136_d2 h_S_)))

/-- The reference's softmax of an array of scores. -/
def softmax (s : FVec Ideal S8x3136x49 .f32) : FVec Ideal S8x3136x49 .f32 :=
  Host.divf (Host.exp (subf s (maxima s)))
    (broadcastInDim S8x3136x49 ![0, 1, 2] bcast_S8x3136x1_S8x3136x49_0_1_2
      (broadcastInDim S8x3136x1 ![0, 1] bcast_S8x3136_S8x3136x1_0_1
        (Host.reduceAdd (Host.exp (subf s (maxima s))) (constant S_ .f32 0x00000000#32) reducesTo_S8x3136x49_S8x3136_d2 h_S_)))

/-- The reference's indices of the four largest entries of each row. -/
def best (r : FVec Ideal S8x3136x49 .f32) : IVec S8x3136x4 32 :=
  (Host.topK S8x3136x4 2 (FloatOps.cmpfTotal .gt) r sliceFits_S8x3136x49_S8x3136x4).2

/-- The reference's sum of the one-hot rows of four indices. -/
def oneHots (i : IVec S8x3136x4 32) : FVec Ideal S8x3136x49 .f32 :=
  Host.reduceAdd (uitofp .f32 (cmpi .eq
      (broadcastInDim S8x3136x4x49 ![0, 1, 2, 3] bcast_S8x3136x4x1_S8x3136x4x49_0_1_2_3
        (broadcastInDim S8x3136x4x1 ![0, 1, 2] bcast_S8x3136x4_S8x3136x4x1_0_1_2 i))
      (broadcastInDim S8x3136x4x49 ![0, 1, 2, 3] bcast_S1x1x1x49_S8x3136x4x49_0_1_2_3 (iotaInDim S1x1x1x49 32 3))))
    (constant S_ .f32 0x00000000#32) reducesTo_S8x3136x4x49_S8x3136x49_d2 h_S_

/-- The scores at an index. -/
theorem scores_apply (x : FVec Ideal S8x384x56x56 .f32) (w : FVec Ideal S49x384 .f32) (b : FVec Ideal S49 .f32)
    (n : Fin 8) (p : Fin 3136) (k : Fin 49) : scores x w b (ix3 n p k) = score x w b n p k := by
  pointwise [scores]
  rfl

/-- The row maximum at an index: the extra maximum with −∞ changes nothing. -/
theorem maxima_apply (s : FVec Ideal S8x3136x49 .f32) (n : Fin 8) (p : Fin 3136) (k : Fin 49) :
    maxima s (ix3 n p k) = top (fun k => s (ix3 n p k)) := by
  have h : maxima s (ix3 n p k) = max (Ideal.ofBits .f32 0xFF800000#32) (top (fun k => s (ix3 n p k))) := by
    pointwise [maxima]
    rfl
  rw [h, ofBits_negInf, bot_sup_eq]

/-- The softmax at an index. -/
theorem softmax_apply (s : FVec Ideal S8x3136x49 .f32) (n : Fin 8) (p : Fin 3136) (k : Fin 49) :
    softmax s (ix3 n p k) = soft (fun k => s (ix3 n p k)) k := by
  pointwise [softmax, maxima_apply]
  rfl

/-- "Column `j` has the larger entry than column `k`" in one row, as the reference's sort compares them. -/
def larger (r : FVec Ideal S8x3136x49 .f32) (n : Fin 8) (p : Fin 3136) (j k : Fin 49) : Bool :=
  FloatOps.cmpfTotal (F := Ideal) (φ := .f32) CmpDirection.gt (r (ix3 n p j)) (r (ix3 n p k)) == 1#1

/-- The comparison in words of the order. -/
theorem larger_iff (r : FVec Ideal S8x3136x49 .f32) (n : Fin 8) (p : Fin 3136) (j k : Fin 49) :
    larger r n p j k = true ↔ r (ix3 n p k) < r (ix3 n p j) := by
  show (BitVec.ofBool (decide (r (ix3 n p k) < r (ix3 n p j))) == 1#1) = true ↔ _
  by_cases h : r (ix3 n p k) < r (ix3 n p j) <;> simp [h]

/-- Moving along the last axis replaces the column. -/
theorem along_column (n : Fin 8) (p : Fin 3136) (i k : Fin 49) :
    (ix3 n p i : S8x3136x49.Idx).along 2 k = ix3 n p k := by
  funext a
  match a with
  | ⟨0, _⟩ => rfl
  | ⟨1, _⟩ => rfl
  | ⟨2, _⟩ => rfl

/-- The column the sort puts at position `i` of a row. -/
def column (r : FVec Ideal S8x3136x49 .f32) (n : Fin 8) (p : Fin 3136) (i : Fin 4) : Fin 49 :=
  sortedFrom (larger r n p) ⟨i.val, Nat.lt_of_lt_of_le i.isLt (by decide)⟩

/-- The index at position `i` of a row is that column's number. -/
theorem best_apply (r : FVec Ideal S8x3136x49 .f32) (n : Fin 8) (p : Fin 3136) (i : Fin 4) :
    best r (ix3 n p i) = BitVec.ofNat 32 (column r n p i).val := by
  pointwise [best, Host.topK, Host.sort2]
  simp only [along_column]
  rfl

/-- It is the column of rank `i`. -/
theorem column_eq_iff (r : FVec Ideal S8x3136x49 .f32) (n : Fin 8) (p : Fin 3136) (i : Fin 4) (k : Fin 49) :
    column r n p i = k ↔ rank (fun k => r (ix3 n p k)) k = i.val :=
  eq_sortedFrom_iff (fun k => r (ix3 n p k)) (larger r n p) (larger_iff r n p) _ k

/-- One term of the sum of one-hot rows. -/
theorem oneHot_term (k k' : Fin 49) :
    FloatOps.uitofp (F := Ideal) .f32 (IntOp.cmpi CmpIPredicate.eq (BitVec.ofNat 32 k.val) (BitVec.ofNat 32 k'.val))
      = if k = k' then (1 : EReal) else 0 := by
  have hinj : BitVec.ofNat 32 k.val = BitVec.ofNat 32 k'.val ↔ k = k' := by
    constructor
    · intro h
      have h' := congrArg BitVec.toNat h
      simp only [BitVec.toNat_ofNat] at h'
      exact Fin.ext (by omega)
    · rintro rfl
      rfl
  show (((BitVec.ofBool (decide (BitVec.ofNat 32 k.val = BitVec.ofNat 32 k'.val))).toNat : ℝ) : EReal) = _
  by_cases h : k = k'
  · simp [hinj, h]
  · simp [hinj, h]

/-- The four one-hot rows of the best indices add to the mask of the four first ranks. -/
theorem oneHots_best_apply (r : FVec Ideal S8x3136x49 .f32) (n : Fin 8) (p : Fin 3136) (k : Fin 49) :
    oneHots (best r) (ix3 n p k) = taken (fun k => r (ix3 n p k)) 4 k := by
  have h : oneHots (best r) (ix3 n p k)
      = ∑ i : Fin 4, FloatOps.uitofp (F := Ideal) .f32 (IntOp.cmpi CmpIPredicate.eq (best r (ix3 n p i)) (BitVec.ofNat 32 k.val)) := by
    pointwise [oneHots]
  rw [h]
  simp only [best_apply, oneHot_term, column_eq_iff]
  rw [Fin.sum_univ_four, taken]
  generalize rank (fun k => r (ix3 n p k)) k = m
  by_cases h4 : m < 4
  · interval_cases m <;> simp
  · have h0 : m ≠ 0 := by omega
    have h1 : m ≠ 1 := by omega
    have h2 : m ≠ 2 := by omega
    have h3 : m ≠ 3 := by omega
    simp [h0, h1, h2, h3, h4]

/-- THE REFERENCE'S SECOND RESULT is the array of softmaxes. -/
theorem soft_eq (x : FVec Ideal S8x384x56x56 .f32) (w : FVec Ideal S49x384 .f32) (b : FVec Ideal S49 .f32) :
    softmax (scores x w b) = softArr x w b := by
  funext j
  idx_vars j
  rw [softmax_apply]
  simp only [scores_apply]
  rfl

/-- THE REFERENCE'S FIRST RESULT is the array of masks, where the scores are finite. -/
theorem mask_eq (x : FVec Ideal S8x384x56x56 .f32) (w : FVec Ideal S49x384 .f32) (b : FVec Ideal S49 .f32)
    (hs : ∀ n p k, IsReal (score x w b n p k)) : oneHots (best (softmax (scores x w b))) = maskArr x w b := by
  funext j
  idx_vars j
  rw [oneHots_best_apply]
  simp only [softmax_apply, scores_apply, taken]
  rw [show (fun k => soft (fun k => score x w b j0 j1 k) k) = soft (score x w b j0 j1) from rfl,
    rank_soft _ (fun k => (hs j0 j1 k).1) (fun k => (hs j0 j1 k).2)]
  rfl

end Cert.RefValue

end
-- ==== Proof.Precondition.lean ====
/-
  THE PRECONDITION, READ. `finite` asks of each argument that the absolute value of every entry be below +∞; so every
  entry is a real number.
-/
module

public import proofs.«01_k».proof.Proof.Soft
public import proofs.«01_k».proof.Proof.Spec
public import proofs.«01_k».proof.Proof.Gen.Pre_finite
public import Idealize.ShloMosaic.Lib.ReduceAll

@[expose] public section

set_option maxRecDepth 16384

noncomputable section

namespace Cert.Precondition

open Idealize.ShloMosaic Cert.Soft Cert.Spec Cert.Pre_finite Cert.Pre_finite.Gen

/-- An extended real whose absolute value is below +∞ is a real number. -/
theorem isReal_of_abs_lt {a : EReal} (h : max a (-a) < ⊤) : IsReal a := by
  refine ⟨?_, ?_⟩ <;> rintro rfl <;> simp at h

/-- One argument's test, at one entry: where the comparison answers 1 the entry is a real number. -/
theorem isReal_of_test {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) : IsReal (x i) := by
  have h' : Ideal.cmp .olt (max (x i) (-(x i))) (Ideal.ofBits .f32 0x7F800000#32) = 1#1 := h
  rw [ofBits_posInf] at h'
  refine isReal_of_abs_lt ?_
  by_contra hn
  have e : Ideal.cmp .olt (max (x i) (-(x i))) ⊤ = 0#1 := by simp [Ideal.cmp, hn]
  rw [e] at h'
  exact absurd h' (by decide)

/-- A shape without axes has a single index. -/
instance : Subsingleton S_.Idx := ⟨fun a b => funext fun k => Fin.elim0 k⟩

/-- One argument's test, over all entries: where the conjunction answers 1 every entry is a real number. -/
theorem isReal_of_all {s : Shape} {axes : List (Fin s.rank)} (x : FVec Ideal s .f32)
    (hb : S_.BroadcastsInDim s (![] : Fin 0 → Fin s.rank)) (hr : s.ReducesTo axes S_)
    (h : Host.reduce IntOp.andi (cmpf .olt (Host.absf x) (broadcastInDim s ![] hb (constant S_ .f32 0x7F800000#32)))
      (constantI S_ 1 1#1) hr h_S_ = fun _ => 1#1) (i : s.Idx) : IsReal (x i) :=
  isReal_of_test x hb i (Host.reduce_andi_all _ _ hr h_S_ (fun k => Fin.elim0 k) (congrFun h _) i)

/-- THE PRECONDITION: all entries of the images, the weights and the bias are real numbers. -/
theorem real_of_finite (x : FVec Ideal SX .f32) (w : FVec Ideal SW .f32) (b : FVec Ideal SB .f32)
    (h : (Cert.Pre_finite.fn (F := Ideal) x w b).1 = (fun _ => 1#1) ∧ (Cert.Pre_finite.fn (F := Ideal) x w b).2.1 = (fun _ => 1#1)
      ∧ (Cert.Pre_finite.fn (F := Ideal) x w b).2.2 = (fun _ => 1#1)) :
    (∀ i, IsReal (x i)) ∧ (∀ i, IsReal (w i)) ∧ ∀ i, IsReal (b i) := by
  obtain ⟨hx, hw, hb⟩ := h
  dsimp only [Cert.Pre_finite.fn] at hx hw hb
  exact ⟨isReal_of_all x bcast_S_S8x384x56x56 reducesTo_S8x384x56x56_S_d0_1_2_3 hx,
    isReal_of_all w bcast_S_S49x384 reducesTo_S49x384_S_d0_1 hw, isReal_of_all b bcast_S_S49 reducesTo_S49_S_d0 hb⟩

end Cert.Precondition

end
-- ==== Proof.lean ====
/-
  THE CLAIMS, PROVED. The kernel (version v01) and the reference both end with `Spec.softArr` of the arguments in the
  softmax result, whatever the arguments; where the arguments are finite both also end with `Spec.maskArr` in the mask
  result. The kernel's side is Proof/Arrays.lean, the reference's Proof/RefValue.lean, the precondition's reading
  Proof/Precondition.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite
public import proofs.«01_k».proof.Proof.Gen.On_softmax_entries
public import proofs.«01_k».proof.Proof.Arrays
public import proofs.«01_k».proof.Proof.RefValue
public import proofs.«01_k».proof.Proof.Precondition
public import Idealize.ShloMosaic.Adequacy
public import Idealize.ShloMosaic.Lib.Quiescent
public import Idealize.ShloMosaic.Init

@[expose] public section

noncomputable section

namespace Cert.Proof

open Idealize.ShloMosaic Idealize.SL.Sem Cert.Arrays Cert.RefValue Cert.Spec

/-- The kernel as printed runs to the end, keeps its arguments and leaves every counter at zero. -/
theorem quiescent_kernel : Cert.quiescent_Kernel := fun m ρ _ => Cert.Kernel.Gen.frame m ρ

/-- So does the kernel over the extended reals. -/
theorem quiescent_ideal : Cert.quiescent_KernelIdeal := fun m ρ _ => Cert.KernelIdeal.Gen.frame m ρ

/-- So does it under the precondition. -/
theorem quiescent_ideal_finite : Cert.quiescent_KernelIdeal_pre_finite := fun m ρ _ => Cert.KernelIdeal.Gen.frame m ρ

/-- So does the reference: it declares no semaphore, and its run keeps the arguments. -/
theorem quiescent_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- So does the reference under the precondition. -/
theorem quiescent_reference_finite : Cert.quiescent_ReferenceIdeal_pre_finite := fun m ρ _ =>
  quiescent_reference m ρ trivial

/-- Nothing was rewritten in the kernel. -/
theorem preserves : Cert.preserves_Kernel_KernelIdeal := trivial

/-- What both programs leave as softmaxes on device `c`, of the arguments it starts with. -/
abbrev softOf (m : (ℓ : Loc Cert.KernelIdeal.nD Cert.KernelIdeal.τ Cert.KernelIdeal.sig) → Buf (Elt Ideal) ℓ)
    (c : Dev Cert.KernelIdeal.nD) : FVec Ideal SR .f32 := softArr (argX m c) (argW m c) (argB m c)

/-- What both leave as masks. -/
abbrev maskOf (m : (ℓ : Loc Cert.KernelIdeal.nD Cert.KernelIdeal.τ Cert.KernelIdeal.sig) → Buf (Elt Ideal) ℓ)
    (c : Dev Cert.KernelIdeal.nD) : FVec Ideal SR .f32 := maskArr (argX m c) (argW m c) (argB m c)

/-- The run of the reference, from arguments `x`, `w`, `b` on device `c`: its softmaxes are `softArr x w b`. -/
theorem ref_soft {x x' : FVec Ideal SX .f32} {w w' : FVec Ideal SW .f32} {b b' : FVec Ideal SB .f32} (hx : x' = x)
    (hw : w' = w) (hb : b' = b) : softmax (scores x' w' b') = softArr x w b := by
  rw [hx, hw, hb, soft_eq]

/-- And its masks are `maskArr x w b`, where the scores are real. -/
theorem ref_mask {x x' : FVec Ideal SX .f32} {w w' : FVec Ideal SW .f32} {b b' : FVec Ideal SB .f32} (hx : x' = x)
    (hw : w' = w) (hb : b' = b) (hs : ∀ n p k, IsReal (score x w b n p k)) :
    oneHots (best (softmax (scores x' w' b'))) = maskArr x w b := by
  rw [hx, hw, hb, mask_eq x w b hs]

/-- WITHOUT A PRECONDITION the softmax results are equal at every entry. The selection has no entry of the mask result,
    so nothing is asked of it here. -/
theorem algebraic_softmax : Cert.algebraic_KernelIdeal_ReferenceIdeal_on_softmax_entries := by
  intro m ρ m' ρ' _ hagree
  refine ⟨fun c => maskOf m c, fun c => softOf m c, ?_, ?_⟩
  · exact (θ_run Cert.KernelIdeal.defs _ _).mono
      (fun _ h c => ⟨fun _ hi => absurd (show (0#1 : BitVec 1) = 1#1 from hi) (by decide),
        fun i _ => congrFun ((h c).2.1.trans (soft_final m c)) i, (h c).2.2⟩)
      (Cert.KernelIdeal.Value.run_blocks (F := Ideal) m ρ)
  · exact (θ_run Cert.ReferenceIdeal.defs _ _).mono
      (fun _ h c => ⟨fun _ hi => absurd (show (0#1 : BitVec 1) = 1#1 from hi) (by decide),
        fun i _ => congrFun ((h c).2.1.trans (ref_soft (hagree c).1 (hagree c).2.1 (hagree c).2.2)) i, (h c).2.2⟩)
      (Cert.ReferenceIdeal.Value.run (F := Ideal) m' ρ')

/-- FOR FINITE ARGUMENTS both results are equal. -/
theorem algebraic_finite : Cert.algebraic_KernelIdeal_ReferenceIdeal_pre_finite := by
  intro m ρ m' ρ' hpre hagree
  have real (c : Dev Cert.KernelIdeal.nD) : ∀ n p k, IsReal (score (argX m c) (argW m c) (argB m c) n p k) := by
    obtain ⟨hx, hw, hb⟩ := Cert.Precondition.real_of_finite (argX m c) (argW m c) (argB m c) (hpre c)
    exact isReal_score _ _ _ hx hw hb
  refine ⟨fun c => maskOf m c, fun c => softOf m c, ?_, ?_⟩
  · exact (θ_run Cert.KernelIdeal.defs _ _).mono
      (fun _ h c => ⟨(h c).1.trans (mask_final m c fun n p k => (real c n p k).1),
        (h c).2.1.trans (soft_final m c), (h c).2.2⟩)
      (Cert.KernelIdeal.Value.run_blocks (F := Ideal) m ρ)
  · exact (θ_run Cert.ReferenceIdeal.defs _ _).mono
      (fun _ h c => ⟨(h c).1.trans (ref_mask (hagree c).1 (hagree c).2.1 (hagree c).2.2 (real c)),
        (h c).2.1.trans (ref_soft (hagree c).1 (hagree c).2.1 (hagree c).2.2), (h c).2.2⟩)
      (Cert.ReferenceIdeal.Value.run (F := Ideal) m' ρ')

/-- All the claims. -/
theorem claim : Cert.Claim :=
  ⟨Cert.Kernel.Gen.facts, Cert.KernelIdeal.Gen.facts, Cert.ReferenceIdeal.Gen.facts, Cert.Pre_finite.Gen.facts,
    Cert.On_softmax_entries.Gen.facts, quiescent_kernel, quiescent_ideal, quiescent_ideal_finite, quiescent_reference,
    quiescent_reference_finite, preserves, algebraic_softmax, algebraic_finite⟩

end Cert.Proof

end
